-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_distinct [hPre_nearest_distinct : Cert.Pre_nearest_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_distinct [hPre_nearest_distinct : Cert.Pre_nearest_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_distinct [hKernelIdeal : Cert.KernelIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_distinct [hReferenceIdeal : Cert.ReferenceIdeal.Facts] [hPre_nearest_distinct : Cert.Pre_nearest_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nearest_distinct [hKernelIdeal : Cert.KernelIdeal.Facts] [hReferenceIdeal : Cert.ReferenceIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_distinct : Cert.Pre_nearest_distinct.Facts),
    quiescent_Kernel (hKernel := hKernel)
    ∧ quiescent_KernelIdeal (hKernelIdeal := hKernelIdeal)
    ∧ quiescent_KernelIdeal_pre_nearest_distinct (hKernelIdeal := hKernelIdeal) (hPre_nearest_distinct := hPre_nearest_distinct)
    ∧ quiescent_ReferenceIdeal (hReferenceIdeal := hReferenceIdeal)
    ∧ quiescent_ReferenceIdeal_pre_nearest_distinct (hReferenceIdeal := hReferenceIdeal) (hPre_nearest_distinct := hPre_nearest_distinct)
    ∧ preserves_Kernel_KernelIdeal
    ∧ algebraic_KernelIdeal_ReferenceIdeal_pre_nearest_distinct (hKernelIdeal := hKernelIdeal) (hReferenceIdeal := hReferenceIdeal) (hPre_nearest_distinct := hPre_nearest_distinct)
-- ==== Pre_nearest_distinct.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x18 : Shape := ⟨3, ![4, 4096, 18]⟩
abbrev S4x4096x17 : Shape := ⟨3, ![4, 4096, 17]⟩

class Facts : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  sliceFits_S4x4096x4096_S4x4096x18 : S4x4096x4096.Slices (fun _ => 0) S4x4096x18
  slices_S4x4096x18_S4x4096x17_0_0_0 : S4x4096x18.Slices ![0, 0, 0] S4x4096x17
  slices_S4x4096x18_S4x4096x17_0_0_1 : S4x4096x18.Slices ![0, 0, 1] S4x4096x17
  dot_S4x4096x3_S4x4096x3_S4x4096x4096_2_2_1_1_0_0_wf : DotDims.WF S4x4096x3 S4x4096x3 S4x4096x4096 [2] [2] [1] [1] [0] [0]

variable [Facts]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf
def fn {F : FTy → Type} [FloatOps F] (main_arg0 : FVec F S4x4096x3 .f32) (main_arg1 : FVec F S4x4096x3 .f32) : IVec S4x4096x17 1 :=
  let main_v0 : FVec F S4x4096x3 .f32 := mulf main_arg0 main_arg0
  let main_cst : FVec F S_ .f32 := constant S_ .f32 0x00000000#32
  let main_v1 : FVec F S4x4096 .f32 := (fun x v => Host.reduceAdd x v reducesTo_S4x4096x3_S4x4096_d2 h_S_) main_v0 main_cst
  let main_v2 : FVec F S4x4096x1 .f32 := broadcastInDim S4x4096x1 ![0, 1] bcast_S4x4096_S4x4096x1_0_1 main_v1
  let main_v3 : FVec F S4x1x4096 .f32 := broadcastInDim S4x1x4096 ![0, 2] bcast_S4x4096_S4x1x4096_0_2 main_v1
  let main_v4 : FVec F S4x4096x4096 .f32 := broadcastInDim S4x4096x4096 ![0, 1, 2] bcast_S4x4096x1_S4x4096x4096_0_1_2 main_v2
  let main_v5 : FVec F S4x4096x4096 .f32 := broadcastInDim S4x4096x4096 ![0, 1, 2] bcast_S4x1x4096_S4x4096x4096_0_1_2 main_v3
  let main_v6 : FVec F S4x4096x4096 .f32 := addf main_v4 main_v5
  let main_v7 : FVec F S4x4096x4096 .f32 := (fun l r => Host.dotGeneral dot_S4x4096x3_S4x4096x3_S4x4096x4096_2_2_1_1_0_0 none l r) main_arg0 main_arg0
  let main_cst_0 : FVec F S_ .f32 := constant S_ .f32 0x40000000#32
  let main_v8 : FVec F S4x4096x4096 .f32 := broadcastInDim S4x4096x4096 ![] bcast_S_S4x4096x4096 main_cst_0
  let main_v9 : FVec F S4x4096x4096 .f32 := mulf main_v8 main_v7
  let main_v10 : FVec F S4x4096x4096 .f32 := subf main_v6 main_v9
  let main_v11 : FVec F S4x4096x4096 .f32 := Host.negf main_v10
  let main_values : FVec F S4x4096x18 .f32 := (fun x => (Host.topK S4x4096x18 2 (FloatOps.cmpfTotal .gt) x sliceFits_S4x4096x4096_S4x4096x18).1) main_v11
  let main_indices : IVec S4x4096x18 32 := (fun x => (Host.topK S4x4096x18 2 (FloatOps.cmpfTotal .gt) x sliceFits_S4x4096x4096_S4x4096x18).2) main_v11
  let main_v12 : FVec F S4x4096x17 .f32 := (extractStridedSlice S4x4096x17 ![0, 0, 0] · slices_S4x4096x18_S4x4096x17_0_0_0) main_values
  let main_v13 : FVec F S4x4096x17 .f32 := (extractStridedSlice S4x4096x17 ![0, 0, 1] · slices_S4x4096x18_S4x4096x17_0_0_1) main_values
  let main_v14 : IVec S4x4096x17 1 := cmpf .ogt main_v12 main_v13
  main_v14
-- ==== Kernel.lean ====
abbrev S4x4096x3 : Shape := ⟨3, ![4, 4096, 3]⟩
abbrev S4x3x4096 : Shape := ⟨3, ![4, 3, 4096]⟩
abbrev S_ : Shape := ⟨0, ![]⟩
abbrev S4x4096x1 : Shape := ⟨3, ![4, 4096, 1]⟩
abbrev S4x4096x4 : Shape := ⟨3, ![4, 4096, 4]⟩
abbrev S4x1x1 : Shape := ⟨3, ![4, 1, 1]⟩
abbrev S1x1024x3 : Shape := ⟨3, ![1, 1024, 3]⟩
abbrev S1x3x4096 : Shape := ⟨3, ![1, 3, 4096]⟩
abbrev S1x4096x4 : Shape := ⟨3, ![1, 4096, 4]⟩
abbrev S1x1x1 : Shape := ⟨3, ![1, 1, 1]⟩
abbrev S1024x4096 : Shape := ⟨2, ![1024, 4096]⟩
abbrev S3x4096 : Shape := ⟨2, ![3, 4096]⟩
abbrev S1x4096 : Shape := ⟨2, ![1, 4096]⟩
abbrev S4x4096 : Shape := ⟨2, ![4, 4096]⟩
abbrev S1024x3 : Shape := ⟨2, ![1024, 3]⟩
abbrev S1024x1 : Shape := ⟨2, ![1024, 1]⟩
abbrev S1024x4 : Shape := ⟨2, ![1024, 4]⟩
abbrev S1024 : Shape := ⟨1, ![1024]⟩
abbrev S4096x4 : Shape := ⟨2, ![4096, 4]⟩
abbrev S1 : Shape := ⟨1, ![1]⟩

abbrev nBuf : Space → Nat
  | .hbm => 12
  | .vmem => 13
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S_, .f32⟩
  | .hbm, ⟨4, _⟩ => ⟨S4x4096x1, .f32⟩
  | .hbm, ⟨5, _⟩ => ⟨S4x4096x4, .f32⟩
  | .hbm, ⟨6, _⟩ => ⟨S4x4096x4, .f32⟩
  | .hbm, ⟨7, _⟩ => ⟨S4x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x4, .f32⟩
  | .local _ .vmem, ⟨5, _⟩ => ⟨S1x4096x4, .f32⟩
  | .local _ .vmem, ⟨6, _⟩ => ⟨S1x1024x3, .f32⟩
  | .local _ .vmem, ⟨7, _⟩ => ⟨S1x1024x3, .f32⟩
  | .local _ .vmem, ⟨8, _⟩ => ⟨S1x4096x4, .f32⟩
  | .local _ .vmem, ⟨9, _⟩ => ⟨S1x4096x4, .f32⟩
  | .local _ .vmem, ⟨10, _⟩ => ⟨S1x1x1, .f32⟩
  | .local _ .vmem, ⟨11, _⟩ => ⟨S1x1x1, .f32⟩
  | .local _ .vmem, ⟨12, _⟩ => ⟨S1024x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x17 : Shape := ⟨3, ![4, 4096, 17]⟩
abbrev S4x4096x16 : Shape := ⟨3, ![4, 4096, 16]⟩
abbrev S4x4096x16x1 : Shape := ⟨4, ![4, 4096, 16, 1]⟩
abbrev S4x4096x16x3 : Shape := ⟨4, ![4, 4096, 16, 3]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x17, .f32⟩
  | .hbm, ⟨17, _⟩ => ⟨S4x4096x17, .i32⟩
  | .hbm, ⟨18, _⟩ => ⟨S4x4096x16, .i32⟩
  | .hbm, ⟨19, _⟩ => ⟨S_, .i32⟩
  | .hbm, ⟨20, _⟩ => ⟨S4x4096x16, .i32⟩
  | .hbm, ⟨21, _⟩ => ⟨S4x4096x16, .i1⟩
  | .hbm, ⟨22, _⟩ => ⟨S_, .i32⟩
  | .hbm, ⟨23, _⟩ => ⟨S4x4096x16, .i32⟩
  | .hbm, ⟨24, _⟩ => ⟨S4x4096x16, .i32⟩
  | .hbm, ⟨25, _⟩ => ⟨S4x4096x16, .i32⟩
  | .hbm, ⟨26, _⟩ => ⟨S4x4096x16x1, .i32⟩
  | .hbm, ⟨27, _⟩ => ⟨S4x4096x16x3, .f32⟩
  | .hbm, ⟨28, _⟩ => ⟨S_, .f32⟩
  | .hbm, ⟨29, _⟩ => ⟨S4x4096x3, .f32⟩
  | .hbm, ⟨30, _⟩ => ⟨S_, .f32⟩
  | .hbm, ⟨31, _⟩ => ⟨S4x4096x3, .f32⟩
  | .hbm, ⟨32, _⟩ => ⟨S4x4096x3, .f32⟩
  | .hbm, ⟨33, _⟩ => ⟨S4x4096x3, .f32⟩
  | .hbm, ⟨34, _⟩ => ⟨S_, .i32⟩
  | .hbm, ⟨35, _⟩ => ⟨S4x4096x16, .i32⟩
  | .hbm, ⟨36, _⟩ => ⟨S4x4096x16, .i1⟩
  | .hbm, ⟨37, _⟩ => ⟨S_, .i32⟩
  | .hbm, ⟨38, _⟩ => ⟨S4x4096x16, .i32⟩
  | .hbm, ⟨39, _⟩ => ⟨S4x4096x16, .i32⟩
  | .hbm, ⟨40, _⟩ => ⟨S4x4096x16, .i32⟩
  | .hbm, ⟨41, _⟩ => ⟨S4x4096x16x1, .i32⟩
  | .hbm, ⟨42, _⟩ => ⟨S4x4096x16x3, .f32⟩
  | .hbm, ⟨43, _⟩ => ⟨S_, .f32⟩
  | .hbm, ⟨44, _⟩ => ⟨S4x4096x3, .f32⟩
  | .hbm, ⟨45, _⟩ => ⟨S_, .f32⟩
  | .hbm, ⟨46, _⟩ => ⟨S4x4096x3, .f32⟩
  | .hbm, ⟨47, _⟩ => ⟨S4x4096x3, .f32⟩
  | .hbm, ⟨48, _⟩ => ⟨S4x4096x3, .f32⟩
  | .hbm, ⟨49, _⟩ => ⟨S4x4096x3, .f32⟩
  | .hbm, ⟨50, _⟩ => ⟨S4x4096x3, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Lit.lean ====
/-
  The float literals of both programs, as extended reals.
-/
module

public import Idealize.ShloMosaic.PureOps.Ideal
public import Idealize.ShloMosaic.PureOps.Ideal.Laws
public import Idealize.ShloMosaic.Lib.IdealHost

@[expose] public section

namespace Cert.Lit

open Idealize.ShloMosaic

/-- The word of `+∞`. -/
theorem inf_word : Ideal.ofBits .f32 0x7F800000#32 = ⊤ := by
  simp [Ideal.ofBits, Ideal.ieee, -EReal.coe_mul, -EReal.coe_neg]

/-- The word of `2`. -/
theorem two_word : Ideal.ofBits .f32 0x40000000#32 = 2 := by
  have : (2 : EReal) = ((2 : ℝ) : EReal) := rfl
  rw [this]
  simp [Ideal.ofBits, Ideal.ieee, -EReal.coe_mul, -EReal.coe_neg]
  norm_num

/-- The word of `-2`. -/
theorem neg_two_word : Ideal.ofBits .f32 0xC0000000#32 = -2 := by
  have : (-2 : EReal) = ((-2 : ℝ) : EReal) := rfl
  rw [this]
  simp [Ideal.ofBits, Ideal.ieee, -EReal.coe_mul, -EReal.coe_neg]
  norm_num

/-- The word of `16`. -/
theorem sixteen_word : Ideal.ofBits .f32 0x41800000#32 = ((16 : ℝ) : EReal) := by
  simp [Ideal.ofBits, Ideal.ieee, -EReal.coe_mul, -EReal.coe_neg]
  norm_num

end Cert.Lit
-- ==== Proof.Select.lean ====
/-
  The selection by repeated minimum, apart from any program: `e` gives each of finitely many candidates an extended real,
  `s 1, …, s K` are candidates of strictly increasing value and every other candidate has a greater value than `s K`.
  Taking the minimum, and then again and again the minimum of what lies strictly above the last minimum, gives the
  values of `s 1, s 2, …` in turn; so "at most the `K`-th minimum" picks exactly `s 1, …, s K`.
-/
module

public import Mathlib.Data.EReal.Operations
public import Mathlib.Algebra.BigOperators.Fin

@[expose] public section

namespace Cert.Select

open scoped BigOperators

variable {ι : Type} [Fintype ι]

/-- The least value of all. -/
noncomputable def least (e : ι → EReal) : EReal := ⨅ j, e j

/-- The least value strictly above `m`, or `⊤` if there is none. -/
noncomputable def above (e : ι → EReal) (m : EReal) : EReal := ⨅ j, if m < e j then e j else ⊤

/-- The minimum after `t` further steps. -/
noncomputable def minAfter (e : ι → EReal) : ℕ → EReal
  | 0 => least e
  | t + 1 => above e (minAfter e t)

/-- `s 0, …, s (K - 1)` are the `K` candidates of least value, in strictly increasing order. -/
structure Nearest (e : ι → EReal) (K : ℕ) (s : Fin K → ι) : Prop where
  lt : ∀ a b : Fin K, a < b → e (s a) < e (s b)
  rest : ∀ j, (∃ a, s a = j) ∨ ∀ a, e (s a) < e j

variable {e : ι → EReal} {K : ℕ} {s : Fin K → ι}

/-- The `t`-th repeated minimum is the value of the `t`-th nearest candidate. -/
theorem minAfter_eq (h : Nearest e K s) (t : ℕ) (ht : t < K) : minAfter e t = e (s ⟨t, ht⟩) := by
  induction t with
  | zero =>
    refine le_antisymm (iInf_le _ _) (le_iInf fun j => ?_)
    rcases h.rest j with ⟨a, rfl⟩ | hj
    · rcases Nat.eq_zero_or_pos a.val with h0 | h0
      · have : a = ⟨0, ht⟩ := Fin.ext h0
        rw [this]
      · exact (h.lt ⟨0, ht⟩ a h0).le
    · exact (hj _).le
  | succ t ih =>
    have ht' : t < K := Nat.lt_of_succ_lt ht
    show above e (minAfter e t) = _
    rw [ih ht']
    refine le_antisymm ?_ (le_iInf fun j => ?_)
    · refine (iInf_le _ (s ⟨t + 1, ht⟩)).trans ?_
      rw [if_pos (h.lt ⟨t, ht'⟩ ⟨t + 1, ht⟩ (Nat.lt_succ_self t))]
    · split
      · rename_i hlt
        rcases h.rest j with ⟨a, rfl⟩ | hj
        · rcases Nat.lt_trichotomy a.val (t + 1) with h1 | h1 | h1
          · rcases Nat.lt_succ_iff_lt_or_eq.mp h1 with h2 | h2
            · exact absurd (h.lt a ⟨t, ht'⟩ h2) (not_lt.mpr hlt.le)
            · have : a = ⟨t, ht'⟩ := Fin.ext h2
              rw [this] at hlt
              exact absurd hlt (lt_irrefl _)
          · have : a = ⟨t + 1, ht⟩ := Fin.ext h1
            rw [this]
          · exact (h.lt ⟨t + 1, ht⟩ a h1).le
        · exact (hj _).le
      · exact le_top

/-- The nearest candidates are pairwise different. -/
theorem Nearest.injective (h : Nearest e K s) : Function.Injective s := by
  intro a b hab
  rcases lt_trichotomy a b with hlt | heq | hgt
  · exact absurd (h.lt a b hlt) (by rw [hab]; exact lt_irrefl _)
  · exact heq
  · exact absurd (h.lt b a hgt) (by rw [hab]; exact lt_irrefl _)

/-- A value is at most the last of `K` repeated minima exactly for the `K` nearest candidates. -/
theorem le_minAfter_iff (h : Nearest e K s) (t : ℕ) (ht : t + 1 = K) (j : ι) :
    e j ≤ minAfter e t ↔ ∃ a, s a = j := by
  have htK : t < K := by omega
  rw [minAfter_eq h t htK]
  constructor
  · intro hle
    rcases h.rest j with hj | hj
    · exact hj
    · exact absurd (hj ⟨t, htK⟩) (not_lt.mpr hle)
  · rintro ⟨a, rfl⟩
    rcases Nat.lt_or_ge a.val t with h1 | h1
    · exact (h.lt a ⟨t, htK⟩ h1).le
    · have : a = ⟨t, htK⟩ := Fin.ext (by have := a.isLt; simp only; omega)
      rw [this]

/-- A sum weighted by 1 at the nearest candidates and 0 elsewhere is the sum over the nearest candidates. -/
theorem sum_weighted (h : Nearest e K s) (t : ℕ) (ht : t + 1 = K) (q : ι → EReal) :
    ∑ j, (if e j ≤ minAfter e t then (1 : EReal) else 0) * q j = ∑ a, q (s a) := by
  classical
  have h1 : ∀ j, (if e j ≤ minAfter e t then (1 : EReal) else 0) * q j = if j ∈ Finset.univ.image s then q j else 0 := by
    intro j
    by_cases hj : ∃ a, s a = j
    · rw [if_pos ((le_minAfter_iff h t ht j).mpr hj), if_pos (by simpa using hj), one_mul]
    · rw [if_neg (fun hle => hj ((le_minAfter_iff h t ht j).mp hle)), if_neg (by simpa using hj), zero_mul]
  rw [Finset.sum_congr rfl fun j _ => h1 j, Finset.sum_ite_mem, Finset.univ_inter,
    Finset.sum_image fun a _ b _ hab => h.injective hab]

end Cert.Select
-- ==== Proof.Row.lean ====
/-
  One row of the two distance tables, apart from any program. `p` is a cloud of points with extended real coordinates.
  The reference ranks the points by `near p i j`, minus the squared distance of `i` and `j`, greatest first; the kernel
  ranks them by `off p i j`, the squared distance without its constant part, least first, with `i` itself put last.
  Where the ranking by `near` has no tie among its first 18 entries, the points are finite, the first entry is `i`, and
  the next 16 are the 16 nearest by `off`.
-/
module

public import Mathlib.Data.EReal.Operations
public import Mathlib.Algebra.BigOperators.Fin
public import Mathlib.Algebra.Order.BigOperators.Group.Finset
public import Mathlib.Tactic.Ring
public import Mathlib.Tactic.Linarith
public import Mathlib.Tactic.FinCases
public import proofs.«01_k».proof.Proof.Select

@[expose] public section

namespace Cert.Row

open scoped BigOperators

variable {n : ℕ}

/-- The squared length of point `j`. -/
noncomputable def sqn (p : Fin n → Fin 3 → EReal) (j : Fin n) : EReal := ∑ c, p j c * p j c

/-- Minus the squared distance of `i` and `j`, as the reference writes it. -/
noncomputable def near (p : Fin n → Fin 3 → EReal) (i j : Fin n) : EReal :=
  -((sqn p i + sqn p j) - 2 * ∑ c, p i c * p j c)

/-- The squared distance of `i` and `j` less that of `i` from the origin, `⊤` at `i` itself, as the kernel writes it. -/
noncomputable def off (p : Fin n → Fin 3 → EReal) (i j : Fin n) : EReal :=
  if j = i then ⊤ else (∑ c, p i c * (-2 * p j c)) + 1 * sqn p j

/-- `σ` lists the candidates by `x`, greatest first, the first 18 of them strictly decreasing. -/
structure Ranked (x : Fin n → EReal) (σ : Fin n → Fin n) : Prop where
  onto : Function.Surjective σ
  anti : ∀ a b, a < b → x (σ b) ≤ x (σ a)
  strict : ∀ (k : ℕ) (h : k + 1 < n), k < 17 → x (σ ⟨k + 1, h⟩) < x (σ ⟨k, Nat.lt_of_succ_lt h⟩)

/-- A square is not negative. -/
theorem mul_self_nonneg' (a : EReal) : 0 ≤ a * a := by
  induction a with
  | bot => rw [EReal.bot_mul_bot]; exact le_top
  | coe r => rw [← EReal.coe_mul]; exact_mod_cast mul_self_nonneg r
  | top => rw [EReal.top_mul_top]; exact le_top

/-- An infinite coordinate has square `⊤`. -/
theorem mul_self_top {a : EReal} (h : a = ⊤ ∨ a = ⊥) : a * a = ⊤ := by
  rcases h with rfl | rfl
  · exact EReal.top_mul_top
  · exact EReal.bot_mul_bot

theorem sqn_nonneg (p : Fin n → Fin 3 → EReal) (j : Fin n) : 0 ≤ sqn p j :=
  Finset.sum_nonneg fun c _ => mul_self_nonneg' (p j c)

/-- A point with an infinite coordinate has squared length `⊤`. -/
theorem sqn_top {p : Fin n → Fin 3 → EReal} {j : Fin n} {c : Fin 3} (h : p j c = ⊤ ∨ p j c = ⊥) : sqn p j = ⊤ :=
  top_le_iff.mp ((mul_self_top h).symm.le.trans
    (Finset.single_le_sum (f := fun c => p j c * p j c) (fun c _ => mul_self_nonneg' (p j c)) (Finset.mem_univ c)))

/-- The row of a point with an infinite coordinate holds infinities only. -/
theorem near_infinite {p : Fin n → Fin 3 → EReal} {i : Fin n} (h : sqn p i = ⊤) (j : Fin n) :
    near p i j = ⊤ ∨ near p i j = ⊥ := by
  unfold near
  rw [h, EReal.top_add_of_ne_bot (ne_of_gt (lt_of_lt_of_le EReal.bot_lt_zero (sqn_nonneg p j)))]
  generalize 2 * ∑ c, p i c * p j c = y
  induction y with
  | bot => right; rw [EReal.top_sub_bot]; rfl
  | coe r => right; rw [EReal.top_sub_coe]; rfl
  | top => left; rw [EReal.sub_top]; rfl

/-- A row without ties among its first entries belongs to a finite point. -/
theorem finite {p : Fin n → Fin 3 → EReal} {i : Fin n} {σ : Fin n → Fin n} (hn : 18 ≤ n) (h : Ranked (near p i) σ)
    (c : Fin 3) : p i c ≠ ⊤ ∧ p i c ≠ ⊥ := by
  by_contra hc
  have hinf : p i c = ⊤ ∨ p i c = ⊥ := by
    by_cases h1 : p i c = ⊤
    · exact Or.inl h1
    · exact Or.inr (by_contra fun h2 => hc ⟨h1, h2⟩)
  have hs := sqn_top hinf
  have h01 := h.strict 0 (by omega) (by omega)
  have h12 := h.strict 1 (by omega) (by omega)
  rcases near_infinite hs (σ ⟨0 + 1, by omega⟩) with e | e
  · rw [e] at h01
    exact absurd h01 not_top_lt
  · change near p i (σ ⟨1 + 1, by omega⟩) < near p i (σ ⟨0 + 1, by omega⟩) at h12
    rw [e] at h12
    exact absurd h12 not_lt_bot

section real
variable (r : Fin n → Fin 3 → ℝ)

/-- The squared distance of two real points, written out. -/
def dist2 (i j : Fin n) : ℝ := (r i 0 - r j 0) ^ 2 + (r i 1 - r j 1) ^ 2 + (r i 2 - r j 2) ^ 2

theorem two_coe : (2 : EReal) = ((2 : ℝ) : EReal) := rfl

theorem sqn_coe (j : Fin n) :
    sqn (fun j c => (r j c : EReal)) j = ((r j 0 * r j 0 + r j 1 * r j 1 + r j 2 * r j 2 : ℝ) : EReal) := by
  unfold sqn
  rw [Fin.sum_univ_three]
  push_cast
  rfl

/-- On finite points the reference's entry is minus the squared distance. -/
theorem near_coe (i j : Fin n) : near (fun j c => (r j c : EReal)) i j = ((-dist2 r i j : ℝ) : EReal) := by
  unfold near
  rw [sqn_coe, sqn_coe, Fin.sum_univ_three, two_coe]
  simp only [← EReal.coe_mul, ← EReal.coe_add, ← EReal.coe_sub, ← EReal.coe_neg]
  congr 1
  unfold dist2
  ring

/-- On finite points the kernel's entry, off the diagonal, is the squared distance less the squared length of `i`. -/
theorem off_coe (i j : Fin n) (h : j ≠ i) : off (fun j c => (r j c : EReal)) i j
    = ((dist2 r i j - (r i 0 * r i 0 + r i 1 * r i 1 + r i 2 * r i 2) : ℝ) : EReal) := by
  unfold off
  rw [if_neg h, sqn_coe, Fin.sum_univ_three, two_coe, one_mul]
  simp only [← EReal.coe_neg, ← EReal.coe_mul, ← EReal.coe_add, ← EReal.coe_sub]
  congr 1
  unfold dist2
  ring

theorem dist2_self (i : Fin n) : dist2 r i i = 0 := by unfold dist2; ring

theorem dist2_nonneg (i j : Fin n) : 0 ≤ dist2 r i j := by unfold dist2; positivity

/-- Off the diagonal the two rankings are each other's reverse. -/
theorem off_lt {i j k : Fin n} (hj : j ≠ i) (hk : k ≠ i)
    (h : near (fun j c => (r j c : EReal)) i k < near (fun j c => (r j c : EReal)) i j) :
    off (fun j c => (r j c : EReal)) i j < off (fun j c => (r j c : EReal)) i k := by
  rw [near_coe, near_coe, EReal.coe_lt_coe_iff] at h
  rw [off_coe r i j hj, off_coe r i k hk, EReal.coe_lt_coe_iff]
  linarith

/-- The diagonal comes after every other candidate. -/
theorem off_lt_self {i j : Fin n} (hj : j ≠ i) :
    off (fun j c => (r j c : EReal)) i j < off (fun j c => (r j c : EReal)) i i := by
  rw [off_coe r i j hj, off, if_pos rfl]
  exact EReal.coe_lt_top _

end real

variable {p : Fin n → Fin 3 → EReal} {i : Fin n} {σ : Fin n → Fin n}

/-- Along the first 18 the order is strict. -/
theorem Ranked.strict_lt {x : Fin n → EReal} (h : Ranked x σ) (a b : Fin n) (hab : a < b) (ha : a.val < 17) :
    x (σ b) < x (σ a) := by
  have hb := b.isLt
  have h1 : a.val + 1 < n := by have : a.val < b.val := hab; omega
  have hs := h.strict a.val h1 ha
  rcases Nat.lt_or_ge (a.val + 1) b.val with h2 | h2
  · exact (h.anti ⟨a.val + 1, h1⟩ b h2).trans_lt hs
  · have : b = ⟨a.val + 1, h1⟩ := Fin.ext (by have : a.val < b.val := hab; simp only; omega)
    rw [this]; exact hs

/-- The nearest of all is the point itself. -/
theorem first (hn : 18 ≤ n) (hp : ∀ j c, p j c ≠ ⊤ ∧ p j c ≠ ⊥) (h : Ranked (near p i) σ) :
    σ ⟨0, by omega⟩ = i := by
  obtain ⟨k, hk⟩ := h.onto i
  rcases Nat.eq_zero_or_pos k.val with h0 | h0
  · have : k = ⟨0, by omega⟩ := Fin.ext h0
    rw [← this]; exact hk
  · exfalso
    have hlt := h.strict_lt ⟨0, by omega⟩ k h0 (by simp)
    rw [hk] at hlt
    have e : p = fun j c => ((p j c).toReal : EReal) := by
      funext j c; exact (EReal.coe_toReal (hp j c).1 (hp j c).2).symm
    rw [e, near_coe, near_coe, EReal.coe_lt_coe_iff, dist2_self] at hlt
    have := dist2_nonneg (fun j c => (p j c).toReal) i (σ ⟨0, by omega⟩)
    linarith

/-- The 16 entries after the first of the reference's ranking are the 16 nearest of the kernel's. -/
theorem nearest (hn : 18 ≤ n) (hp : ∀ j c, p j c ≠ ⊤ ∧ p j c ≠ ⊥) (h : Ranked (near p i) σ) :
    Select.Nearest (off p i) 16 fun a => σ ⟨a.val + 1, by omega⟩ := by
  have hf := first hn hp h
  have e : p = fun j c => ((p j c).toReal : EReal) := by
    funext j c; exact (EReal.coe_toReal (hp j c).1 (hp j c).2).symm
  have hne : ∀ k : Fin n, 0 < k.val → σ k ≠ i := by
    intro k hk hki
    have hlt := h.strict_lt ⟨0, by omega⟩ k hk (by simp)
    rw [hki, hf] at hlt
    exact lt_irrefl _ hlt
  have hoff : ∀ a b : Fin n, 0 < a.val → a < b → a.val < 17 → off p i (σ a) < off p i (σ b) := by
    intro a b ha hab h17
    have hlt := h.strict_lt a b hab h17
    have h1 := hne a ha
    have h2 := hne b (lt_trans ha hab)
    rw [e] at hlt ⊢
    exact off_lt _ h1 h2 hlt
  refine ⟨fun a b hab => hoff _ _ (Nat.succ_pos _) (Nat.succ_lt_succ hab) (by simp only; omega), fun j => ?_⟩
  obtain ⟨k, rfl⟩ := h.onto j
  rcases Nat.eq_zero_or_pos k.val with h0 | h0
  · right
    intro a
    have : k = ⟨0, by omega⟩ := Fin.ext h0
    rw [this, hf]
    have h1 := hne ⟨a.val + 1, by omega⟩ (Nat.succ_pos _)
    rw [e]
    exact off_lt_self _ h1
  · rcases Nat.lt_or_ge k.val 17 with h1 | h1
    · left
      refine ⟨⟨k.val - 1, by omega⟩, ?_⟩
      congr 1
      exact Fin.ext (by simp only; omega)
    · right
      intro a
      exact hoff _ _ (Nat.succ_pos _) (by show a.val + 1 < k.val; omega) (by simp only; omega)

end Cert.Row
-- ==== Proof.TopK.lean ====
/-
  The host's top-k of a table along its last axis, read at an index: entry `c` of a row is the row's entry at the position
  that the row's sort puts at place `c`, and its index word is that position. The positions run over the whole row, and
  along the sort the entries do not increase.
-/
module

public import Idealize.ShloMosaic.PureOps.Ideal
public import Idealize.ShloMosaic.PureOps.Ideal.Laws
public import Idealize.ShloMosaic.Lib.SortFacts
public import Idealize.ShloMosaic.Lib.Pointwise
public import proofs.«01_k».proof.Proof.Row

@[expose] public section

noncomputable section

namespace Cert.TopK

open Idealize.ShloMosaic

/-- A table of 4 batches of 4096 rows of 4096 entries. -/
abbrev Tab : Shape := ⟨3, ![4, 4096, 4096]⟩

/-- The position that the sort of row `i` of batch `b`, greatest first, puts at each place. -/
def order (x : Tab.Idx → EReal) (b : Fin 4) (i : Fin 4096) : Fin 4096 → Fin 4096 :=
  sortedFrom fun a a' => FloatOps.cmpfTotal (F := Ideal) (φ := .f32) .gt (x (ix3 b i a)) (x (ix3 b i a')) == 1#1

theorem along_ix3 (b : Fin 4) (i c a : Fin 4096) :
    (ix3 b i c : Tab.Idx).along (2 : Fin 3) a = ix3 b i a := by
  funext d
  fin_cases d <;> rfl

/-- The sort of the whole table along its last axis at an index: the row's permutation, applied to `y`. -/
theorem sort_apply {β : Type} (x : Tab.Idx → EReal) (y : Tab.Idx → β) (b : Fin 4) (i c : Fin 4096) :
    (Host.sort2 Tab 2 (fun l r : EReal × β => FloatOps.cmpfTotal (F := Ideal) (φ := .f32) .gt l.1 r.1) x y).1 (ix3 b i c)
        = x (ix3 b i (order x b i c))
      ∧ (Host.sort2 Tab 2 (fun l r : EReal × β => FloatOps.cmpfTotal (F := Ideal) (φ := .f32) .gt l.1 r.1) x y).2 (ix3 b i c)
        = y (ix3 b i (order x b i c)) := by
  unfold Host.sort2
  rw [dif_pos (show 2 < Tab.rank by decide)]
  constructor
  · show x ((ix3 b i c : Tab.Idx).along (2 : Fin 3) (sortedFrom (fun k k' : Fin 4096 =>
      FloatOps.cmpfTotal (F := Ideal) (φ := .f32) .gt (x ((ix3 b i c : Tab.Idx).along (2 : Fin 3) k))
        (x ((ix3 b i c : Tab.Idx).along (2 : Fin 3) k')) == 1#1) c)) = _
    simp only [along_ix3]
    exact congrArg x (along_ix3 b i c _)
  · show y ((ix3 b i c : Tab.Idx).along (2 : Fin 3) (sortedFrom (fun k k' : Fin 4096 =>
      FloatOps.cmpfTotal (F := Ideal) (φ := .f32) .gt (x ((ix3 b i c : Tab.Idx).along (2 : Fin 3) k))
        (x ((ix3 b i c : Tab.Idx).along (2 : Fin 3) k')) == 1#1) c)) = _
    simp only [along_ix3]
    exact congrArg y (along_ix3 b i c _)

/-- Place `c` among the first `k` of a row, as an index of the whole table. -/
theorem slice_ix3 (k : ℕ) (hk : k ≤ 4096) (b : Fin 4) (i : Fin 4096) (c : Fin k)
    (q : (a : Fin 3) → 0 + ((ix3 b i c : (⟨3, ![4, 4096, k]⟩ : Shape).Idx) a).val < Tab.size a) :
    (fun a => ⟨0 + ((ix3 b i c : (⟨3, ![4, 4096, k]⟩ : Shape).Idx) a).val, q a⟩ : Tab.Idx)
      = ix3 b i (c.castLE hk) := by
  funext a
  apply Fin.ext
  fin_cases a <;> simp <;> rfl

/-- Entry `c` of a row's top-k is the row's entry at place `c` of its order. -/
theorem values_apply (k : ℕ) (hk : k ≤ 4096) (x : Tab.Idx → EReal) (h : Tab.Slices (fun _ => 0) ⟨3, ![4, 4096, k]⟩)
    (b : Fin 4) (i : Fin 4096) (c : Fin k) :
    (Host.topK (s := Tab) ⟨3, ![4, 4096, k]⟩ 2 (FloatOps.cmpfTotal (F := Ideal) (φ := .f32) .gt) x h).1 (ix3 b i c)
      = x (ix3 b i (order x b i (c.castLE hk))) := by
  refine Eq.trans ?_ (sort_apply x (fun i => if hd : 2 < Tab.rank then iotaInDim Tab 32 ⟨2, hd⟩ i else 0#32) b i
    (c.castLE hk)).1
  rw [← slice_ix3 k hk b i c (fun a => by fin_cases a <;> simp <;> omega)]
  rfl

/-- Its index word is the position. -/
theorem indices_apply (k : ℕ) (hk : k ≤ 4096) (x : Tab.Idx → EReal) (h : Tab.Slices (fun _ => 0) ⟨3, ![4, 4096, k]⟩)
    (b : Fin 4) (i : Fin 4096) (c : Fin k) :
    (Host.topK (s := Tab) ⟨3, ![4, 4096, k]⟩ 2 (FloatOps.cmpfTotal (F := Ideal) (φ := .f32) .gt) x h).2 (ix3 b i c)
      = BitVec.ofNat 32 (order x b i (c.castLE hk)).val := by
  refine Eq.trans ?_ (sort_apply x (fun i => if hd : 2 < Tab.rank then iotaInDim Tab 32 ⟨2, hd⟩ i else 0#32) b i
    (c.castLE hk)).2
  rw [← slice_ix3 k hk b i c (fun a => by fin_cases a <;> simp <;> omega)]
  rfl

/-- The comparison of a descending sort. -/
theorem gt_iff (a b : EReal) : FloatOps.cmpfTotal (F := Ideal) (φ := .f32) .gt a b = 1#1 ↔ b < a := by
  rw [Ideal.cmpfTotal_def]
  show BitVec.ofBool (decide (b < a)) = 1#1 ↔ b < a
  by_cases h : b < a <;> simp [h]

/-- The order of a row ranks it, once its first 18 entries are strictly decreasing. -/
theorem ranked (x : Tab.Idx → EReal) (b : Fin 4) (i : Fin 4096)
    (hs : ∀ (k : ℕ) (h : k + 1 < 4096), k < 17 →
      x (ix3 b i (order x b i ⟨k + 1, h⟩)) < x (ix3 b i (order x b i ⟨k, Nat.lt_of_succ_lt h⟩))) :
    Row.Ranked (fun j => x (ix3 b i j)) (order x b i) where
  onto := sortedFrom_surjective _
  anti a a' haa := by
    have h := sortedFrom_noInversion
      (fun a a' => FloatOps.cmpfTotal (F := Ideal) (φ := .f32) .gt (x (ix3 b i a)) (x (ix3 b i a')) == 1#1)
      (fun a a' => FloatOps.cmpfTotal (F := Ideal) (φ := .f32) .gt (x (ix3 b i a)) (x (ix3 b i a')) == 1#1)
      (fun a a' h => by
        rw [beq_iff_eq, gt_iff] at h
        rw [beq_eq_false_iff_ne, Ne, gt_iff]
        exact not_lt.mpr h.le)
      (fun _ _ h => h)
      (fun a a' a'' h1 h2 => by
        rw [beq_eq_false_iff_ne, Ne, gt_iff] at h1 h2 ⊢
        exact not_lt.mpr ((not_lt.mp h1).trans (not_lt.mp h2)))
      a a' haa
    rw [beq_eq_false_iff_ne, Ne, gt_iff] at h
    exact not_lt.mp h
  strict := hs

end Cert.TopK
-- ==== Proof.Terms.lean ====
/-
  The reference's result in named parts, and each part at an index.
-/
module

public import proofs.«01_k».proof.Proof.Gen.ReferenceIdeal.Run
public import proofs.«01_k».proof.Proof.Lit
public import proofs.«01_k».proof.Proof.TopK
public import Idealize.ShloMosaic.Lib.Pointwise

@[expose] public section

set_option maxRecDepth 16384

noncomputable section

namespace Cert.ReferenceIdeal.Terms

open Cert.ReferenceIdeal Cert.ReferenceIdeal.Gen Cert.ReferenceIdeal.Value Idealize.ShloMosaic Idealize.ShloMosaic.TcCoe Idealize.SL.Sem
open scoped BigOperators

/-- The clouds. -/
abbrev Cloud := FVec Ideal S4x4096x3 .f32

/-- Minus the squared distances of all pairs of points. -/
def table (x : Cloud) : FVec Ideal S4x4096x4096 .f32 :=
  Host.negf (subf (addf (broadcastInDim S4x4096x4096 ![0, 1, 2] bcast_S4x4096x1_S4x4096x4096_0_1_2 (broadcastInDim S4x4096x1 ![0, 1] bcast_S4x4096_S4x4096x1_0_1 (Host.reduceAdd (mulf x x) (constant S_ .f32 0x00000000#32) reducesTo_S4x4096x3_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (mulf x x) (constant S_ .f32 0x00000000#32) reducesTo_S4x4096x3_S4x4096_d2 h_S_)))) (mulf (broadcastInDim S4x4096x4096 ![] bcast_S_S4x4096x4096 (constant S_ .f32 0x40000000#32)) (Host.dotGeneral dot_S4x4096x3_S4x4096x3_S4x4096x4096_2_2_1_1_0_0 none x x)))

/-- The places of the 16 neighbours. -/
def places (x : Cloud) : IVec S4x4096x16 32 :=
  extractStridedSlice S4x4096x16 ![0, 0, 1] ((Host.topK S4x4096x17 2 (FloatOps.cmpfTotal .gt) (table x) sliceFits_S4x4096x4096_S4x4096x17).2) slices_S4x4096x17_S4x4096x16_0_0_1

/-- The places as the gather takes them. -/
def starts (x : Cloud) : IVec S4x4096x16x1 32 :=
  broadcastInDim S4x4096x16x1 ![0, 1, 2] bcast_S4x4096x16_S4x4096x16x1_0_1_2 (select (cmpi .slt (places x) (broadcastInDim S4x4096x16 ![] bcast_S_S4x4096x16 (constantI S_ 32 0#32))) (addi (places x) (broadcastInDim S4x4096x16 ![] bcast_S_S4x4096x16 (constantI S_ 32 4096#32))) (places x))

/-- The mean of each point's neighbours in `y` less the point. -/
def offset (x y : Cloud) : Cloud :=
  subf (Host.divf (Host.reduceAdd (Host.gather gather_S4x4096x3_S4x4096x16x1_S4x4096x16x3_3_1_0_0_1_3_113 y (starts x)) (constant S_ .f32 0x00000000#32) reducesTo_S4x4096x16x3_S4x4096x3_d2 h_S_) (broadcastInDim S4x4096x3 ![] bcast_S_S4x4096x3 (constant S_ .f32 0x41800000#32))) y

/-- The result. -/
def out (x y : Cloud) : FVec Ideal S_ .f32 :=
  Host.divf (Host.reduceAdd (Host.absf (subf (offset x x) (offset x y))) (constant S_ .f32 0x00000000#32) reducesTo_S4x4096x3_S_d0_1_2 h_S_) (constant S_ .f32 0x47400000#32)

/-- The reference's result is the last of the parts. -/
theorem res_eq (m : (ℓ : Loc nD τ sig) → Buf (Elt Ideal) ℓ) (c : Dev nD) :
    res_out0 m c = out (m ((c.tc : Thread nD τ).loc main_arg0)) (m ((c.tc : Thread nD τ).loc main_arg1)) := by
  unfold res_out0 res_main_v38
  rfl

/-- The table at an index. -/
theorem table_apply (x : Cloud) (b : Fin 4) (i j : Fin 4096) :
    table x (ix3 b i j) = Row.near (fun j c => x (ix3 b j c)) i j := by
  pointwise [table]
  rw [Lit.two_word]
  rfl

/-- The place of a neighbour at an index. -/
theorem places_apply (x : Cloud) (b : Fin 4) (i : Fin 4096) (a : Fin 16) :
    places x (ix3 b i a) = BitVec.ofNat 32 (TopK.order (table x) b i ⟨a.val + 1, by omega⟩).val := by
  pointwise [places]
  have h := TopK.indices_apply 17 (by norm_num) (table x) sliceFits_S4x4096x4096_S4x4096x17 b i ⟨1 + a.val, by omega⟩
  refine h.trans (congrArg (fun p => BitVec.ofNat 32 (TopK.order (table x) b i p).val) (Fin.ext ?_))
  show 1 + a.val = a.val + 1
  omega

/-- A place as a signed word. -/
theorem toInt_place (n : Fin 4096) : (BitVec.ofNat 32 n.val).toInt = n.val := by
  have h := n.isLt
  rw [BitVec.toInt_eq_toNat_of_lt (by rw [BitVec.toNat_ofNat]; omega), BitVec.toNat_ofNat]
  omega

/-- The same as the gather takes it: a place is not negative. -/
theorem starts_apply (x : Cloud) (b : Fin 4) (i : Fin 4096) (a : Fin 16) :
    starts x (ix4 b i a 0) = BitVec.ofNat 32 (TopK.order (table x) b i ⟨a.val + 1, by omega⟩).val := by
  pointwise [starts]
  rw [places_apply]
  generalize TopK.order (table x) b i ⟨a.val + 1, by omega⟩ = n
  unfold Scalar.select
  rw [if_neg]
  have e : BitVec.slt (BitVec.ofNat 32 n.val) 0#32 = false := by
    rw [BitVec.slt, toInt_place]
    simp
  show ¬BitVec.ofBool (BitVec.slt (BitVec.ofNat 32 n.val) 0#32) = 1
  rw [e]
  decide

/-- The gather at an index: the point whose place the start index names. -/
theorem gather_apply (y : Cloud) (w : IVec S4x4096x16x1 32) (b : Fin 4) (i : Fin 4096)
    (a : Fin 16) (c : Fin 3) (n : Fin 4096) (h : w (ix4 b i a 0) = BitVec.ofNat 32 n.val) :
    Host.gather gather_S4x4096x3_S4x4096x16x1_S4x4096x16x3_3_1_0_0_1_3_113 y w (ix4 b i a c) = y (ix3 b n c) := by
  show y _ = _
  refine congrArg y ?_
  funext d
  apply Fin.ext
  fin_cases d
  · show GatherDims.start _ _ _ _ + GatherDims.batchCoord _ _ _ + GatherDims.offCoord _ _ _ = b.val
    unfold GatherDims.start GatherDims.batchCoord GatherDims.offCoord
    rw [dif_neg (by decide), dif_pos (by decide), dif_neg (by decide)]
    exact (Nat.zero_add _).trans rfl
  · show GatherDims.start _ _ _ _ + GatherDims.batchCoord _ _ _ + GatherDims.offCoord _ _ _ = n.val
    unfold GatherDims.start GatherDims.batchCoord GatherDims.offCoord
    rw [dif_pos (by decide), dif_neg (by decide), dif_neg (by decide)]
    have e : ∀ k, gather_S4x4096x3_S4x4096x16x1_S4x4096x16x3_3_1_0_0_1_3_113.siIdx (ix4 b i a c) k = ix4 b i a 0 := by
      intro k
      funext d
      fin_cases d
      · rfl
      · rfl
      · rfl
      · exact Subsingleton.elim (α := Fin 1) _ _
    rw [e, h, toInt_place]
    show min n.val 4095 + 0 + 0 = n.val
    omega
  · show GatherDims.start _ _ _ _ + GatherDims.batchCoord _ _ _ + GatherDims.offCoord _ _ _ = c.val
    unfold GatherDims.start GatherDims.batchCoord GatherDims.offCoord
    rw [dif_neg (by decide), dif_neg (by decide), dif_pos (by decide)]
    exact (Nat.zero_add _).trans rfl

/-- The offsets at an index. -/
theorem offset_apply (x y : Cloud) (b : Fin 4) (i : Fin 4096) (c : Fin 3) :
    offset x y (ix3 b i c)
      = Ideal.div (∑ a : Fin 16, y (ix3 b (TopK.order (table x) b i ⟨a.val + 1, by omega⟩) c)) ((16 : ℝ) : EReal)
        - y (ix3 b i c) := by
  unfold offset
  pointwise []
  rw [Lit.sixteen_word]
  simp only [fun a => gather_apply y (starts x) b i a c _ (starts_apply x b i a)]

/-- The result at its one index. -/
theorem out_apply (x y : Cloud) (j : S_.Idx) :
    out x y j = Ideal.div (∑ b : Fin 4, ∑ i : Fin 4096, ∑ c : Fin 3,
        max (offset x x (ix3 b i c) - offset x y (ix3 b i c)) (-(offset x x (ix3 b i c) - offset x y (ix3 b i c))))
      (Ideal.ofBits .f32 0x47400000#32) := by
  pointwise [out]
  rfl

end Cert.ReferenceIdeal.Terms
-- ==== Proof.Distinct.lean ====
/-
  What the precondition says: the first 18 entries of every row of the table, greatest first, strictly decrease.
-/
module

public import proofs.«01_k».proof.Proof.Gen.Pre_nearest_distinct
public import proofs.«01_k».proof.Proof.Terms

@[expose] public section

set_option maxRecDepth 16384

noncomputable section

namespace Cert.Distinct

open Cert.ReferenceIdeal.Terms Idealize.ShloMosaic Idealize.SL.Sem

/-- The precondition compares neighbouring values of the top 18 of the table. -/
theorem fn_apply (x y : Cloud) (b : Fin 4) (i : Fin 4096) (k : Fin 17) :
    Cert.Pre_nearest_distinct.fn (F := Ideal) x y (ix3 b i k)
      = BitVec.ofBool (decide
          ((Host.topK (s := TopK.Tab) ⟨3, ![4, 4096, 18]⟩ 2 (FloatOps.cmpfTotal (F := Ideal) (φ := .f32) .gt) (table x)
              Cert.Pre_nearest_distinct.Gen.sliceFits_S4x4096x4096_S4x4096x18).1 (ix3 b i ⟨1 + k.val, by omega⟩)
            < (Host.topK (s := TopK.Tab) ⟨3, ![4, 4096, 18]⟩ 2 (FloatOps.cmpfTotal (F := Ideal) (φ := .f32) .gt) (table x)
              Cert.Pre_nearest_distinct.Gen.sliceFits_S4x4096x4096_S4x4096x18).1 (ix3 b i ⟨k.val, by omega⟩))) := by
  pointwise [Cert.Pre_nearest_distinct.fn]
  rfl

/-- Under the precondition the order of every row ranks it. -/
theorem ranked (x y : Cloud) (h : Cert.Pre_nearest_distinct.fn (F := Ideal) x y = fun _ => 1#1) (b : Fin 4) (i : Fin 4096) :
    Row.Ranked (Row.near (fun j c => x (ix3 b j c)) i) (TopK.order (table x) b i) := by
  have hr := TopK.ranked (table x) b i fun k hk h17 => ?_
  · have e : (fun j => table x (ix3 b i j)) = Row.near (fun j c => x (ix3 b j c)) i :=
      funext fun j => table_apply x b i j
    rw [e] at hr
    exact hr
  · have h1 := congrFun h (ix3 b i ⟨k, h17⟩)
    rw [fn_apply, TopK.values_apply 18 (by norm_num), TopK.values_apply 18 (by norm_num)] at h1
    have h2 : table x (ix3 b i (TopK.order (table x) b i ⟨1 + k, by omega⟩))
        < table x (ix3 b i (TopK.order (table x) b i ⟨k, by omega⟩)) := by
      by_contra hn
      refine absurd h1 ?_
      rw [decide_eq_false (by exact hn)]
      decide
    have e : (⟨k + 1, hk⟩ : Fin 4096) = ⟨1 + k, by omega⟩ := Fin.ext (Nat.add_comm k 1)
    rw [e]
    exact h2

end Cert.Distinct
-- ==== Proof.Blocks.lean ====
/-
  The blocks a grid point reads, at an index: point `t` is tile `t % 4` of batch `t / 4`.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem

/-- The cloud of batch `b`. -/
def cloud (x : (⟨S4x4096x3, .f32⟩ : BufTy).Contents (Elt Ideal)) (b : Fin 4) : Fin 4096 → Fin 3 → EReal :=
  fun j c => x (ix3 b j c)

theorem lt16 (t : Fin cfg0.N) : t.val < 16 := lt_of_lt_of_eq t.isLt (show cfg0.N = 16 from N_0)

/-- The batch of a grid point. -/
def batch (t : Fin cfg0.N) : Fin 4 := ⟨t.val / 4, by have := lt16 t; omega⟩

/-- Row `r` of a grid point's tile, as a row of the batch. -/
def row (t : Fin cfg0.N) (r : Fin 1024) : Fin 4096 := ⟨1024 * (t.val % 4) + r.val, by have := r.isLt; omega⟩

theorem coord1 : ∀ t : Fin grid0.N, (grid0.coords t 1).val = t.val % 4 := by decide +kernel

theorem index : ∀ t : Fin grid0.N,
    (cfg0.win 0).index t = ![t.val / 4, t.val % 4, 0] ∧ (cfg0.win 1).index t = ![t.val / 4, 0, 0]
      ∧ (cfg0.win 2).index t = ![t.val / 4, 0, 0] ∧ (cfg0.win 3).index t = ![t.val / 4, t.val % 4, 0]
      ∧ (cfg0.win 4).index t = ![t.val / 4, 0, 0] ∧ (cfg0.win 5).index t = ![t.val / 4, 0, 0] := by decide +kernel

variable (m : (ℓ : Loc nD τ sig) → Buf (Elt Ideal) ℓ) (c : Dev nD)

/-- The first cloud as launched. -/
abbrev arg0 : (⟨S4x4096x3, .f32⟩ : BufTy).Contents (Elt Ideal) := m ((c : Thread nD τ).loc main_arg0)
/-- The second cloud as launched. -/
abbrev arg1 : (⟨S4x4096x3, .f32⟩ : BufTy).Contents (Elt Ideal) := m ((c : Thread nD τ).loc main_arg1)

theorem iblk0_apply (t : Fin cfg0.N) (r : Fin 1024) (k : Fin 3) :
    iblk m c 0 t (ix3 0 r k) = cloud (arg0 m c) (batch t) (row t r) k := by
  unfold cloud batch row arg0
  blk_ext [iblk, V, index t]

theorem iblk3_apply (t : Fin cfg0.N) (r : Fin 1024) (k : Fin 3) :
    iblk m c 3 t (ix3 0 r k) = cloud (arg1 m c) (batch t) (row t r) k := by
  unfold cloud batch row arg1
  blk_ext [iblk, V, index t]

/-- The first cloud transposed, as the host line leaves it. -/
theorem V_main_v0 : V m c main_v0
    = transpose S4x3x4096 [0, 2, 1] (arg0 m c) transposes_S4x4096x3_S4x3x4096_0_2_1 := by
  show StableHlo.after hostOps0 (fun b => m (c, b)) (Proc.devRef .tc main_v0) = _
  after_results_simp <;> rfl

/-- A cloud with a fourth coordinate 1. -/
def extend (x : (⟨S4x4096x3, .f32⟩ : BufTy).Contents (Elt Ideal)) : (⟨S4x4096x4, .f32⟩ : BufTy).Contents (Elt Ideal) :=
  concatenate S4x4096x4 2 [⟨S4x4096x3, x⟩,
    ⟨S4x4096x1, broadcastInDim S4x4096x1 ![] bcast_S_S4x4096x1 (constant (F := Ideal) S_ .f32 0x3F800000#32)⟩]
    concatenates_S4x4096x3_S4x4096x1_S4x4096x4_d2

/-- The first cloud extended, as the host line leaves it. -/
theorem V_main_v2 : V m c main_v2 = extend (arg0 m c) := by
  show StableHlo.after hostOps0 (fun b => m (c, b)) (Proc.devRef .tc main_v2) = _
  after_results_simp <;> rfl

/-- The second cloud extended, as the host line leaves it. -/
theorem V_main_v3 : V m c main_v3 = extend (arg1 m c) := by
  show StableHlo.after hostOps0 (fun b => m (c, b)) (Proc.devRef .tc main_v3) = _
  after_results_simp <;> rfl

theorem extend_apply (x : (⟨S4x4096x3, .f32⟩ : BufTy).Contents (Elt Ideal)) (b : Fin 4) (j : Fin 4096) (k : Fin 3) :
    extend x (ix3 b j k.castSucc) = x (ix3 b j k) := by
  have h := k.isLt
  pointwise [extend]
  rw [dif_pos (show k.castSucc.val < 3 from h)]
  rfl

theorem extend_one (x : (⟨S4x4096x3, .f32⟩ : BufTy).Contents (Elt Ideal)) (b : Fin 4) (j : Fin 4096) :
    extend x (ix3 b j 3) = (1 : EReal) := by
  pointwise [extend]

theorem iblk1_apply (t : Fin cfg0.N) (k : Fin 3) (j : Fin 4096) :
    iblk m c 1 t (ix3 0 k j) = cloud (arg0 m c) (batch t) j k := by
  have e : iblk m c 1 t (ix3 0 k j) = V m c main_v0 (ix3 (batch t) k j) := by
    unfold batch
    blk_ext [iblk, index t]
  rw [e, V_main_v0]
  unfold cloud
  pointwise

theorem iblk2_apply (t : Fin cfg0.N) (j : Fin 4096) (k : Fin 3) :
    iblk m c 2 t (ix3 0 j k.castSucc) = cloud (arg0 m c) (batch t) j k := by
  have e : iblk m c 2 t (ix3 0 j k.castSucc) = V m c main_v2 (ix3 (batch t) j k.castSucc) := by
    unfold batch
    blk_ext [iblk, index t]
  rw [e, V_main_v2, extend_apply]
  rfl

theorem iblk2_one (t : Fin cfg0.N) (j : Fin 4096) :
    iblk m c 2 t (ix3 0 j 3) = (1 : EReal) := by
  have e : iblk m c 2 t (ix3 0 j 3) = V m c main_v2 (ix3 (batch t) j 3) := by
    unfold batch
    blk_ext [iblk, index t]
  rw [e, V_main_v2, extend_one]

theorem iblk4_apply (t : Fin cfg0.N) (j : Fin 4096) (k : Fin 3) :
    iblk m c 4 t (ix3 0 j k.castSucc) = cloud (arg1 m c) (batch t) j k := by
  have e : iblk m c 4 t (ix3 0 j k.castSucc) = V m c main_v3 (ix3 (batch t) j k.castSucc) := by
    unfold batch
    blk_ext [iblk, index t]
  rw [e, V_main_v3, extend_apply]
  rfl

end Cert.KernelIdeal.Blocks
-- ==== Proof.Chain.lean ====
/-
  The kernel's selection mask over a tile of distances: the chain of fifteen masked row minima, read at an index. Row `r`
  of the mask is 1 where the row's entry is at most the fifteenth repeated minimum (`Select.minAfter`), 0 elsewhere.
-/
module

public import proofs.«01_k».proof.Proof.Gen.KernelIdeal.Skeleton
public import Idealize.ShloMosaic.Lib.Pointwise
public import proofs.«01_k».proof.Proof.Select
public import proofs.«01_k».proof.Proof.Lit

@[expose] public section

noncomputable section

namespace Cert.KernelIdeal.Chain

open Cert.KernelIdeal Cert.KernelIdeal.Gen Idealize.ShloMosaic

/-- Each row's minimum, along the whole row. -/
def minRow (w : FVec Ideal S1024x4096 .f32) : FVec Ideal S1024x4096 .f32 :=
  broadcastTo S1024x4096 (shapeCast S1024x1
    (multiReduction .minimumf [1] S1024 w 0x7F800000#32 reduces_S1024x4096_S1024 (.inl rfl) rfl)
    shapeCasts_S1024_S1024x1) broadcasts_S1024x1_S1024x4096

/-- `w` where it lies above `l`, `⊤` elsewhere. -/
def keep (w l : FVec Ideal S1024x4096 .f32) : FVec Ideal S1024x4096 .f32 :=
  select (cmpf .ogt w l) w (broadcast S1024x4096 (Scalar.ofBits .f32 0x7F800000#32))

/-- The next repeated minimum of each row. -/
def next (w l : FVec Ideal S1024x4096 .f32) : FVec Ideal S1024x4096 .f32 := minRow (keep w l)

/-- The repeated minimum of each row after `t` further steps. -/
def steps (w : FVec Ideal S1024x4096 .f32) : ℕ → FVec Ideal S1024x4096 .f32
  | 0 => minRow w
  | t + 1 => next w (steps w t)

/-- 1 where `w` is at most `l`, 0 elsewhere. -/
def upTo (w l : FVec Ideal S1024x4096 .f32) : FVec Ideal S1024x4096 .f32 :=
  select (cmpf .ole w l) (broadcast S1024x4096 (Scalar.ofBits .f32 0x3F800000#32))
    (broadcast S1024x4096 (Scalar.ofBits .f32 0x00000000#32))

theorem pay5_eq (w : FVec Ideal S1024x4096 .f32) : k0_pay5 (F := Ideal) w = steps w 1 := rfl

theorem pay6_eq (w l : FVec Ideal S1024x4096 .f32) :
    k0_pay6 (F := Ideal) w l = keep w (next w (next w (next w (next w (next w (next w (next w l))))))) := rfl

theorem pay7_eq (w v : FVec Ideal S1024x4096 .f32) :
    k0_pay7 (F := Ideal) w v = upTo w (next w (next w (next w (next w (next w (next w (minRow v))))))) := rfl

/-- The printed chain is the mask of the fifteenth repeated minimum. -/
theorem mask_eq (w : FVec Ideal S1024x4096 .f32) :
    k0_pay7 (F := Ideal) w (k0_pay6 w (k0_pay5 w)) = upTo w (steps w 15) := by
  rw [pay5_eq, pay6_eq, pay7_eq]
  rfl

/-- A row's minimum is the infimum of its entries. -/
theorem minRow_apply (w : FVec Ideal S1024x4096 .f32) (r : Fin 1024) (j : Fin 4096) :
    minRow w (ix2 r j) = ⨅ k : Fin 4096, w (ix2 r k) := by
  pointwise [minRow]
  rw [Lit.inf_word]
  exact Finset.inf_univ_eq_iInf _

theorem keep_apply (w l : FVec Ideal S1024x4096 .f32) (r : Fin 1024) (j : Fin 4096) :
    keep w l (ix2 r j) = if l (ix2 r j) < w (ix2 r j) then w (ix2 r j) else (⊤ : EReal) := by
  pointwise [keep]
  rw [Lit.inf_word]

theorem upTo_apply (w l : FVec Ideal S1024x4096 .f32) (r : Fin 1024) (j : Fin 4096) :
    upTo w l (ix2 r j) = if w (ix2 r j) ≤ l (ix2 r j) then (1 : EReal) else 0 := by
  pointwise [upTo]

/-- The repeated minima of the tile are those of its rows. -/
theorem steps_apply (w : FVec Ideal S1024x4096 .f32) (t : ℕ) (r : Fin 1024) (j : Fin 4096) :
    steps w t (ix2 r j) = Select.minAfter (fun k : Fin 4096 => (w (ix2 r k) : EReal)) t := by
  induction t generalizing j with
  | zero => exact minRow_apply w r j
  | succ t ih =>
    show minRow (keep w (steps w t)) (ix2 r j) = _
    rw [minRow_apply]
    exact iInf_congr fun k => by rw [keep_apply, ih]

/-- The mask at an index. -/
theorem mask_apply (w : FVec Ideal S1024x4096 .f32) (r : Fin 1024) (j : Fin 4096) :
    k0_pay7 (F := Ideal) w (k0_pay6 w (k0_pay5 w)) (ix2 r j)
      = if (w (ix2 r j) : EReal) ≤ Select.minAfter (fun k : Fin 4096 => (w (ix2 r k) : EReal)) 15 then (1 : EReal) else 0 := by
  rw [mask_eq, upTo_apply, steps_apply]

end Cert.KernelIdeal.Chain
-- ==== Proof.Tile.lean ====
/-
  What one grid point adds, read at an index: the tile of distances the kernel stores in its scratch memory, and the sum
  it adds to its output, over the blocks it reads. `p` and `q` are the two clouds of the grid point's batch.
-/
module

public import proofs.«01_k».proof.Proof.Chain
public import proofs.«01_k».proof.Proof.Row
public import Idealize.ShloMosaic.PureOps.Ideal.Laws

@[expose] public section

noncomputable section

namespace Cert.KernelIdeal.Tile

open Cert.KernelIdeal Cert.KernelIdeal.Gen Idealize.ShloMosaic
open scoped BigOperators

/-- The entry of point `i` and coordinate `c`: the neighbours' sums subtracted, divided by their number, less the points'
    own difference, in absolute value. -/
def entry {n : ℕ} (p q : Fin n → Fin 3 → EReal) (s : Fin 16 → Fin n) (i : Fin n) (c : Fin 3) : EReal :=
  max (Ideal.div (∑ a, p (s a) c - ∑ a, q (s a) c) ((16 : ℝ) : EReal) - (p i c - q i c))
    (-(Ideal.div (∑ a, p (s a) c - ∑ a, q (s a) c) ((16 : ℝ) : EReal) - (p i c - q i c)))

/-- The diagonal test: the column's word is the row's word plus the tile's offset where the numbers are. -/
theorem diagonal (j r k : ℕ) (hj : j < 4096) (hr : r < 1024) (hk : k < 4) :
    IntOp.cmpi .eq (BitVec.ofNat 32 j) (IntOp.addi (BitVec.ofNat 32 r) (Scalar.muli (BitVec.ofNat 32 k) 1024#32))
      = if j = 1024 * k + r then 1#1 else 0#1 := by
  have e : IntOp.addi (BitVec.ofNat 32 r) (Scalar.muli (BitVec.ofNat 32 k) 1024#32) = BitVec.ofNat 32 (1024 * k + r) := by
    show BitVec.ofNat 32 r + BitVec.ofNat 32 k * 1024#32 = _
    apply BitVec.eq_of_toNat_eq
    simp only [BitVec.toNat_add, BitVec.toNat_mul, BitVec.toNat_ofNat]
    omega
  rw [e]
  show BitVec.ofBool (BitVec.ofNat 32 j == BitVec.ofNat 32 (1024 * k + r)) = _
  by_cases h : j = 1024 * k + r
  · rw [if_pos h, h, beq_self_eq_true]; rfl
  · rw [if_neg h, beq_eq_false_iff_ne.mpr]
    · rfl
    · intro hb
      apply h
      have := congrArg BitVec.toNat hb
      simp only [BitVec.toNat_ofNat] at this
      omega

variable (p q : Fin 4096 → Fin 3 → EReal)

/-- Entry `(r, j)` of the stored tile is the kernel's distance of the tile's row `r` and point `j`. -/
theorem dist_apply (i : grid0.Coords) (v0 : Vec Ideal S1x3x4096 .f32) (v13 : Vec Ideal S1x1024x3 .f32)
    (r : Fin 1024) (R : Fin 4096) (hR : R.val = 1024 * (i 1).val + r.val)
    (h0 : ∀ c j, v0 (ix3 0 c j) = p j c) (h13 : ∀ c, v13 (ix3 0 r c) = p R c) (j : Fin 4096) :
    k0_pay4 (F := Ideal) i v0 v13 (ix2 r j) = Row.off p R j := by
  pointwise [k0_pay4, k0_pay3]
  rw [diagonal j.val r.val (i 1).val j.isLt r.isLt (i 1).isLt, Lit.inf_word, Lit.neg_two_word]
  simp only [h0, h13]
  unfold Row.off Row.sqn Scalar.select
  by_cases h : j = R
  · have h' : j.val = 1024 * (i 1).val + r.val := by rw [h, hR]
    rw [if_pos h', if_pos h]
    exact if_pos rfl
  · have h' : ¬j.val = 1024 * (i 1).val + r.val := fun e => h (Fin.ext (e.trans hR.symm))
    rw [if_neg h', if_neg h, if_neg (by decide)]
    simp only [Fin.sum_univ_three, Finset.univ_unique, Finset.sum_singleton, one_mul]

/-- The sum a grid point adds: over the tile's rows and the coordinates, each point's entry. -/
theorem add_apply (i : grid0.Coords) (v0 : Vec Ideal S1x3x4096 .f32) (v13 v134 : Vec Ideal S1x1024x3 .f32)
    (v127 v130 : Vec Ideal S1x4096x4 .f32) (v151 : Vec Ideal S1x1x1 .f32)
    (R : Fin 1024 → Fin 4096) (hR : ∀ r, (R r).val = 1024 * (i 1).val + r.val)
    (h0 : ∀ c j, v0 (ix3 0 c j) = p j c) (h13 : ∀ r c, v13 (ix3 0 r c) = p (R r) c)
    (h134 : ∀ r c, v134 (ix3 0 r c) = q (R r) c)
    (h127 : ∀ j (c : Fin 3), v127 (ix3 0 j c.castSucc) = p j c) (h127' : ∀ j, v127 (ix3 0 j 3) = (1 : EReal))
    (h130 : ∀ j (c : Fin 3), v130 (ix3 0 j c.castSucc) = q j c)
    (s : Fin 1024 → Fin 16 → Fin 4096) (hs : ∀ r, Select.Nearest (Row.off p (R r)) 16 (s r)) :
    k0_pay2 (F := Ideal) (k0_pay3 v13)
        (k0_pay7 (k0_pay4 i v0 v13) (k0_pay6 (k0_pay4 i v0 v13) (k0_pay5 (k0_pay4 i v0 v13)))) v127 v130 v134 v151 (ix3 0 0 0)
      = v151 (ix3 0 0 0) + ∑ r : Fin 1024, ∑ c : Fin 3, entry p q (s r) (R r) c := by
  have hw : ∀ (r : Fin 1024) (j : Fin 4096),
      k0_pay7 (F := Ideal) (k0_pay4 i v0 v13) (k0_pay6 (k0_pay4 i v0 v13) (k0_pay5 (k0_pay4 i v0 v13))) (ix2 r j)
        = if Row.off p (R r) j ≤ Select.minAfter (Row.off p (R r)) 15 then (1 : EReal) else 0 := by
    intro r j
    rw [Chain.mask_apply]
    simp only [fun k => dist_apply p i v0 v13 r (R r) (hR r) h0 (h13 r) k]
  generalize k0_pay7 (F := Ideal) (k0_pay4 i v0 v13) (k0_pay6 (k0_pay4 i v0 v13) (k0_pay5 (k0_pay4 i v0 v13))) = M at hw
  have hP : ∀ (r : Fin 1024) (c : Fin 3), ∑ j, M (ix2 r j) * v127 (ix3 0 j c.castSucc) = ∑ a, p (s r a) c := by
    intro r c
    simp only [hw, h127]
    exact Select.sum_weighted (hs r) 15 rfl fun j => p j c
  have hQ : ∀ (r : Fin 1024) (c : Fin 3), ∑ j, M (ix2 r j) * v130 (ix3 0 j c.castSucc) = ∑ a, q (s r a) c := by
    intro r c
    simp only [hw, h130]
    exact Select.sum_weighted (hs r) 15 rfl fun j => q j c
  have hC : ∀ r : Fin 1024, ∑ j, M (ix2 r j) * v127 (ix3 0 j 3) = ((16 : ℝ) : EReal) := by
    intro r
    simp only [hw, h127']
    refine (Select.sum_weighted (hs r) 15 rfl fun _ => (1 : EReal)).trans ?_
    rw [Finset.sum_const, Finset.card_univ, Fintype.card_fin]
    norm_num
    rfl
  pointwise [k0_pay2, k0_pay3]
  refine congrArg (v151 (ix3 0 0 0) + ·) (Finset.sum_congr rfl fun r _ => Finset.sum_congr rfl fun c _ => ?_)
  have e1 := hP r c
  have e2 := hQ r c
  unfold entry
  rw [← e1, ← e2, hC, h13, h134]
  rfl

end Cert.KernelIdeal.Tile
-- ==== Proof.Points.lean ====
/-
  What the kernel's output block holds after each grid point, and its output array after the run.
-/
module

public import proofs.«01_k».proof.Proof.Blocks
public import proofs.«01_k».proof.Proof.Tile
public import Idealize.ShloMosaic.Lib.Pipeline.ReadBack

@[expose] public section

set_option maxRecDepth 16384

noncomputable section

namespace Cert.KernelIdeal.Points

open Cert.KernelIdeal Cert.KernelIdeal.Gen Cert.KernelIdeal.Blocks Idealize.ShloMosaic Idealize.ShloMosaic.TcCoe Idealize.SL.Sem
open scoped BigOperators

variable (m : (ℓ : Loc nD τ sig) → Buf (Elt Ideal) ℓ) (c : Dev nD)

theorem only (j : S1x1x1.Idx) : j = ix3 0 0 0 := by
  funext a
  fin_cases a <;> exact Subsingleton.elim (α := Fin 1) _ _

/-- The first tile of a batch resets the output to 0. -/
theorem reset_apply (j : S1x1x1.Idx) : k0_pay1 (F := Ideal) j = (0 : EReal) := by
  pointwise [k0_pay1]

/-- The tile of distances that a grid point stores. -/
abbrev tile (t : Fin cfg0.N) : FVec Ideal S1024x4096 .f32 := k0_pay4 (F := Ideal) (grid0.coords t) (iblk m c 1 t) (iblk m c 0 t)

/-- The sum that a grid point leaves in its output, over what it found there. -/
abbrev left (t : Fin cfg0.N) (x : Vec Ideal S1x1x1 .f32) : FVec Ideal S1x1x1 .f32 :=
  k0_pay2 (F := Ideal) (k0_pay3 (iblk m c 0 t)) (k0_pay7 (tile m c t) (k0_pay6 (tile m c t) (k0_pay5 (tile m c t))))
    (iblk m c 2 t) (iblk m c 4 t) (iblk m c 3 t) x

theorem outs_A (t : Fin cfg0.N) (h : t.val % 4 = 0) :
    outsAt0 m c t.val t.isLt = left m c t (k0_pay1 (F := Ideal)) := by
  rw [outsAt0_A m c t h]
  frame_open
  simp (disch := decide) only [↓ View.readCov_skip, ↓ View.readCov_cons_toLoadRect, ↓ View.readCov_fill]
  frame_out

theorem outs_B (t : Fin cfg0.N) (h : ¬t.val % 4 = 0) :
    outsAt0 m c t.val t.isLt = left m c t (outsAt0 m c (t.val - 1) (Nat.lt_of_le_of_lt (Nat.sub_le _ _) t.isLt)) := by
  rw [outsAt0_B m c t h]
  frame_open
  simp (disch := decide) only [↓ View.readCov_skip, ↓ View.readCov_cons_toLoadRect, ↓ View.readCov_fill]
  frame_out

/-- The sum over a grid point's tile: each row's entries, with `s` listing each point's neighbours. -/
def tileSum (s : Fin 4 → Fin 4096 → Fin 16 → Fin 4096) (t : Fin cfg0.N) : EReal :=
  ∑ r : Fin 1024, ∑ k : Fin 3, Tile.entry (cloud (arg0 m c) (batch t)) (cloud (arg1 m c) (batch t))
    (s (batch t) (row t r)) (row t r) k

variable (s : Fin 4 → Fin 4096 → Fin 16 → Fin 4096)
  (hs : ∀ b i, Select.Nearest (Row.off (cloud (arg0 m c) b) i) 16 (s b i))

include hs

theorem left_apply (t : Fin cfg0.N) (x : Vec Ideal S1x1x1 .f32) :
    left m c t x (ix3 0 0 0) = x (ix3 0 0 0) + tileSum m c s t := by
  refine Tile.add_apply (cloud (arg0 m c) (batch t)) (cloud (arg1 m c) (batch t)) (grid0.coords t) _ _ _ _ _ x (row t)
    (fun r => ?_) (fun k j => iblk1_apply m c t k j) (fun r k => iblk0_apply m c t r k) (fun r k => iblk3_apply m c t r k)
    (fun j k => iblk2_apply m c t j k) (fun j => iblk2_one m c t j) (fun j k => iblk4_apply m c t j k)
    (fun r => s (batch t) (row t r)) fun r => hs (batch t) (row t r)
  rw [coord1]
  rfl

/-- After the last tile of a batch the output holds the sum over the batch's four tiles. -/
theorem outs_flush (t : Fin cfg0.N) (h : t.val % 4 = 3) (j : S1x1x1.Idx) :
    outsAt0 m c t.val t.isLt j
      = (0 : EReal) + ∑ a : Fin 4, tileSum m c s ⟨4 * (t.val / 4) + a.val, Pipeline.run_point_lt_of_flush t h a⟩ := by
  refine Pipeline.eq_sum_fin_of_reset_step_apply_of_flush (fun n h => outsAt0 m c n h) 4 (fun _ : S1x1x1.Idx => (0 : EReal))
    (fun t _ => tileSum m c s t) (fun t h i => ?_) (fun t h i => ?_) t h j
  · obtain rfl := only i
    simp only [outs_A m c t h, left_apply m c s hs]
    rw [reset_apply]
  · obtain rfl := only i
    simp only [outs_B m c t h, left_apply m c s hs]

/-- The output array after the run: each batch's sum. -/
theorem arr_out (j : S4x1x1.Idx) :
    (dats m 0 c).arrAt 5 (cfgs 0).N j
      = (0 : EReal) + ∑ a : Fin 4, tileSum m c s ⟨4 * (j 0).val + a.val, by
          have h0 : (j 0).val < 4 := (j 0).isLt
          have ha := a.isLt
          exact lt_of_lt_of_eq (show 4 * (j 0).val + a.val < 16 by omega) N_0.symm⟩ := by
  refine congrFun ((dats m 0 c).arrAt_eq_of_covers 5 (fun j : S4x1x1.Idx => (0 : EReal) + ∑ a : Fin 4, tileSum m c s ⟨4 * (j 0).val + a.val, _⟩)
    (by decide +kernel) fun t hf y => ?_) j
  blk_simp
  rw [after0_5]
  refine (outs_flush m c s hs t ((flush0_5 t).mp hf) y).trans ?_
  refine congrArg ((0 : EReal) + ·) (Finset.sum_congr rfl fun a _ => congrArg (tileSum m c s) (Fin.ext ?_))
  have e : (cfg0.win 5).index t 0 = t.val / 4 := by rw [(index t).2.2.2.2.2]; rfl
  show 4 * (t.val / 4) + a.val = 4 * (cfg0.win 5).index t 0 + a.val
  rw [e]

end Cert.KernelIdeal.Points
-- ==== Proof.Result.lean ====
/-
  The kernel's result after the run: the host lines after the launch, over the output array.
-/
module

public import proofs.«01_k».proof.Proof.Points

@[expose] public section

set_option maxRecDepth 16384

noncomputable section

namespace Cert.KernelIdeal.Result

open Cert.KernelIdeal Cert.KernelIdeal.Gen Cert.KernelIdeal.Blocks Idealize.ShloMosaic Idealize.ShloMosaic.TcCoe Idealize.SL.Sem
open scoped BigOperators

/-- The partial sums added and divided by the number of entries. -/
def mean (A : (⟨S4x1x1, .f32⟩ : BufTy).Contents (Elt Ideal)) : (⟨S_, .f32⟩ : BufTy).Contents (Elt Ideal) :=
  Host.divf (Host.reduceAdd A (constant (F := Ideal) S_ .f32 0x00000000#32) reducesTo_S4x1x1_S_d0_1_2 h_S_)
    (constant (F := Ideal) S_ .f32 0x47400000#32)

/-- The host lines after the launch compute it. -/
theorem tail (σ : Valuation τ sig (Elt Ideal)) :
    StableHlo.after hostOps1 σ (Proc.devRef .tc main_v6) = mean (σ (Proc.devRef .tc main_v4)) := by
  after_results_simp <;> rfl

theorem mean_apply (A : (⟨S4x1x1, .f32⟩ : BufTy).Contents (Elt Ideal)) (j : S_.Idx) :
    mean A j = Ideal.div (∑ b : Fin 4, A (ix3 b 0 0)) (Ideal.ofBits .f32 0x47400000#32) := by
  pointwise [mean]
  simp only [Finset.univ_unique, Finset.sum_singleton]
  rfl

variable (m : (ℓ : Loc nD τ sig) → Buf (Elt Ideal) ℓ) (ρ : Dev nD → PrngReg)

/-- The kernel's result: the mean of the output array. -/
def value (c : Dev nD) : Buf (Elt Ideal) ((c.tc : Thread nD τ).loc main_v6) :=
  mean ((dats m 0 c).arrAt 5 (cfgs 0).N)

/-- Every execution ends with the result at that value, the arguments unchanged. -/
theorem run : θ_run defs (onTc (τ := τ) (main (F := Ideal))) ⟨m, fun _ => 0, ρ⟩ fun r => ∀ c : Dev nD,
      r.2.mem ((c : Thread nD τ).loc main_v6) = value m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v6 (by decide)).trans ?_
    refine (tail _).trans (congrArg mean ?_)
    exact Pipeline.withArrays_arr spec0 winFacts0.arr_inj c (V0 m c) (fun w => (dats m 0 c).arrAt w (cfgs 0).N) 5
  · exact ((h c).1 0).trans (((dats m 0 c).arrAt_in 0 rfl _).trans ((A_eq m c 0).trans (V_main_arg0 m c)))
  · exact ((h c).1 3).trans (((dats m 0 c).arrAt_in 3 rfl _).trans ((A_eq m c 3).trans (V_main_arg1 m c)))

/-- The entries added batch by batch, row by row, coordinate by coordinate. -/
def total (s : Fin 4 → Fin 4096 → Fin 16 → Fin 4096) (c : Dev nD) : EReal :=
  ∑ b : Fin 4, ∑ i : Fin 4096, ∑ k : Fin 3, Tile.entry (cloud (arg0 m c) b) (cloud (arg1 m c) b) (s b i) i k

/-- A sum over the rows of a cloud, taken tile by tile. -/
theorem sum_rows (f : Fin 4096 → EReal) :
    ∑ a : Fin 4, ∑ r : Fin 1024, f ⟨1024 * a.val + r.val, by omega⟩ = ∑ i, f i := by
  rw [← Fintype.sum_prod_type' (f := fun (a : Fin 4) (r : Fin 1024) => f ⟨1024 * a.val + r.val, by omega⟩)]
  refine Fintype.sum_equiv (finProdFinEquiv (m := 4) (n := 1024)) _ (fun i : Fin 4096 => f i) fun x => congrArg f (Fin.ext ?_)
  show 1024 * x.1.val + x.2.val = x.2.val + 1024 * x.1.val
  omega

/-- An entry depends on its batch and row only. -/
theorem entry_congr (s : Fin 4 → Fin 4096 → Fin 16 → Fin 4096) (c : Dev nD) {b b' : Fin 4} {i i' : Fin 4096}
    (hb : b = b') (hi : i = i') (k : Fin 3) :
    Tile.entry (cloud (arg0 m c) b) (cloud (arg1 m c) b) (s b i) i k
      = Tile.entry (cloud (arg0 m c) b') (cloud (arg1 m c) b') (s b' i') i' k := by
  rw [hb, hi]

/-- The tiles of a batch add up to the batch's entries. -/
theorem sum_tiles (s : Fin 4 → Fin 4096 → Fin 16 → Fin 4096) (c : Dev nD) (b : Fin 4)
    (h : ∀ a : Fin 4, 4 * b.val + a.val < cfg0.N) :
    ∑ a : Fin 4, Points.tileSum m c s ⟨4 * b.val + a.val, h a⟩
      = ∑ i : Fin 4096, ∑ k : Fin 3, Tile.entry (cloud (arg0 m c) b) (cloud (arg1 m c) b) (s b i) i k := by
  rw [← sum_rows]
  unfold Points.tileSum
  refine Finset.sum_congr rfl fun a _ => Finset.sum_congr rfl fun r _ => Finset.sum_congr rfl fun k _ => ?_
  refine entry_congr m s c (Fin.ext ?_) (Fin.ext ?_) k
  · show (4 * b.val + a.val) / 4 = b.val
    omega
  · show 1024 * ((4 * b.val + a.val) % 4) + r.val = 1024 * a.val + r.val
    omega

/-- The mean of an array by its entries. -/
theorem mean_of (A : (⟨S4x1x1, .f32⟩ : BufTy).Contents (Elt Ideal)) (g : Fin 4 → EReal)
    (h : ∀ b, A (ix3 b 0 0) = g b) (j : S_.Idx) :
    mean A j = Ideal.div (∑ b : Fin 4, g b) (Ideal.ofBits .f32 0x47400000#32) := by
  rw [mean_apply]
  simp only [h]

/-- The result is the total divided by the number of entries. -/
theorem value_apply (c : Dev nD) (s : Fin 4 → Fin 4096 → Fin 16 → Fin 4096)
    (hs : ∀ b i, Select.Nearest (Row.off (cloud (arg0 m c) b) i) 16 (s b i)) (j : S_.Idx) :
    value m c j = Ideal.div (total m s c) (Ideal.ofBits .f32 0x47400000#32) := by
  refine mean_of _ _ (fun b => ?_) j
  refine (Points.arr_out m c s hs (ix3 b 0 0)).trans ?_
  exact (zero_add (_ : EReal)).trans (sum_tiles m s c b _)

end Cert.KernelIdeal.Result
-- ==== Proof.Element.lean ====
/-
  One entry of the summand, apart from any program: the kernel subtracts the two neighbour sums, divides by the count and
  subtracts the difference of the points; the reference forms each cloud's laplacian and subtracts those. The absolute
  values agree, the first cloud being finite and the second anything.
-/
module

public import Idealize.ShloMosaic.PureOps.Ideal
public import Mathlib.Tactic.Ring

@[expose] public section

namespace Cert.Element

open Idealize.ShloMosaic

/-- The reference's divisor. -/
theorem sixteen_ne_zero : ((16 : ℝ) : EReal) ≠ 0 := by
  rw [Ne, EReal.coe_eq_zero]; norm_num

/-- A quotient by 16 is the product with a sixteenth. -/
theorem div_sixteen (x : EReal) : Ideal.div x ((16 : ℝ) : EReal) = x * ((1 / 16 : ℝ) : EReal) := by
  unfold Ideal.div
  rw [if_neg sixteen_ne_zero, ← EReal.coe_inv]
  congr 2
  norm_num

/-- The two ways of forming an entry have one absolute value: `a` and `p` finite, `b` and `q` anything. -/
theorem abs_eq (a p : ℝ) (b q : EReal) :
    max (Ideal.div ((a : EReal) - b) ((16 : ℝ) : EReal) - ((p : EReal) - q))
        (-(Ideal.div ((a : EReal) - b) ((16 : ℝ) : EReal) - ((p : EReal) - q)))
      = max ((Ideal.div (a : EReal) ((16 : ℝ) : EReal) - p) - (Ideal.div b ((16 : ℝ) : EReal) - q))
        (-((Ideal.div (a : EReal) ((16 : ℝ) : EReal) - p) - (Ideal.div b ((16 : ℝ) : EReal) - q))) := by
  simp only [div_sixteen]
  have hw : (0 : ℝ) < 1 / 16 := by norm_num
  generalize (1 / 16 : ℝ) = w at hw
  induction b with
  | bot =>
    induction q with
    | bot => simp [EReal.bot_mul_coe_of_pos hw, EReal.top_mul_coe_of_pos hw, ← EReal.coe_mul, ← EReal.coe_sub]
    | coe q => simp [EReal.bot_mul_coe_of_pos hw, EReal.top_mul_coe_of_pos hw, ← EReal.coe_mul, ← EReal.coe_sub]
    | top => simp [EReal.bot_mul_coe_of_pos hw, EReal.top_mul_coe_of_pos hw, ← EReal.coe_mul, ← EReal.coe_sub]
  | coe b =>
    induction q with
    | bot => simp [EReal.bot_mul_coe_of_pos hw, EReal.top_mul_coe_of_pos hw, ← EReal.coe_mul, ← EReal.coe_sub]
    | coe q =>
      simp only [← EReal.coe_mul, ← EReal.coe_sub]
      have e : (a - b) * w - (p - q) = a * w - p - (b * w - q) := by ring
      rw [e]
    | top => simp [EReal.bot_mul_coe_of_pos hw, EReal.top_mul_coe_of_pos hw, ← EReal.coe_mul, ← EReal.coe_sub]
  | top =>
    induction q with
    | bot => simp [EReal.bot_mul_coe_of_pos hw, EReal.top_mul_coe_of_pos hw, ← EReal.coe_mul, ← EReal.coe_sub]
    | coe q => simp [EReal.bot_mul_coe_of_pos hw, EReal.top_mul_coe_of_pos hw, ← EReal.coe_mul, ← EReal.coe_sub]
    | top => simp [EReal.bot_mul_coe_of_pos hw, EReal.top_mul_coe_of_pos hw, ← EReal.coe_mul, ← EReal.coe_sub]

end Cert.Element
-- ==== Proof.Equation.lean ====
/-
  The two programs' results are one value.
-/
module

public import proofs.«01_k».proof.Proof.Distinct
public import proofs.«01_k».proof.Proof.Result
public import proofs.«01_k».proof.Proof.Element

@[expose] public section

set_option maxRecDepth 16384

noncomputable section

namespace Cert.Equation

open Cert.ReferenceIdeal.Terms Cert.KernelIdeal.Blocks Idealize.ShloMosaic Idealize.SL.Sem
open scoped BigOperators

/-- The 16 neighbours of a point: those behind it in the order of its row. -/
def neighbour (x : Cloud) (b : Fin 4) (i : Fin 4096) (a : Fin 16) : Fin 4096 :=
  TopK.order (table x) b i ⟨a.val + 1, by omega⟩

/-- A finite sum of reals as extended reals. -/
theorem coe_sum {n : ℕ} (f : Fin n → ℝ) : ((∑ a, f a : ℝ) : EReal) = ∑ a, (f a : EReal) := by
  induction n with
  | zero => simp
  | succ n ih => rw [Fin.sum_univ_succ, Fin.sum_univ_succ, EReal.coe_add, ih]

variable (x y : Cloud) (h : Cert.Pre_nearest_distinct.fn (F := Ideal) x y = fun _ => 1#1)
include h

/-- Under the precondition the first cloud is finite. -/
theorem finite (b : Fin 4) (j : Fin 4096) (c : Fin 3) : cloud x b j c ≠ ⊤ ∧ cloud x b j c ≠ ⊥ :=
  Row.finite (n := 4096) (by norm_num) (Distinct.ranked x y h b j) c

/-- Under the precondition they are the 16 nearest by the kernel's ranking. -/
theorem nearest (b : Fin 4) (i : Fin 4096) :
    Select.Nearest (Row.off (cloud x b) i) 16 (neighbour x b i) :=
  Row.nearest (n := 4096) (by norm_num) (finite x y h b) (Distinct.ranked x y h b i)

/-- A kernel entry is the reference's. -/
theorem entry_eq (b : Fin 4) (i : Fin 4096) (c : Fin 3) :
    Cert.KernelIdeal.Tile.entry (cloud x b) (cloud y b) (neighbour x b i) i c
      = max (offset x x (ix3 b i c) - offset x y (ix3 b i c)) (-(offset x x (ix3 b i c) - offset x y (ix3 b i c))) := by
  rw [offset_apply, offset_apply]
  have e : ∀ j, x (ix3 b j c) = (((x (ix3 b j c)).toReal : ℝ) : EReal) := fun j =>
    (EReal.coe_toReal (finite x y h b j c).1 (finite x y h b j c).2).symm
  have es : (∑ a : Fin 16, x (ix3 b (neighbour x b i a) c))
      = ((∑ a : Fin 16, (x (ix3 b (neighbour x b i a) c)).toReal : ℝ) : EReal) := by
    rw [coe_sum]
    exact Finset.sum_congr rfl fun a _ => e _
  have ha := Element.abs_eq (∑ a : Fin 16, (x (ix3 b (neighbour x b i a) c)).toReal) (x (ix3 b i c)).toReal
    (∑ a : Fin 16, y (ix3 b (neighbour x b i a) c)) (y (ix3 b i c))
  rw [← es, ← e] at ha
  exact ha

omit h in
/-- The reference's result over the entries. -/
theorem out_eq (h : Cert.Pre_nearest_distinct.fn (F := Ideal) x y = fun _ => 1#1) (j : Cert.ReferenceIdeal.S_.Idx) :
    Ideal.div (∑ b : Fin 4, ∑ i : Fin 4096, ∑ c : Fin 3,
        Cert.KernelIdeal.Tile.entry (cloud x b) (cloud y b) (neighbour x b i) i c) (Ideal.ofBits .f32 0x47400000#32)
      = out x y j := by
  rw [out_apply]
  simp only [entry_eq x y h]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_nearest_distinct
public import proofs.«01_k».proof.Proof.Equation
public import Idealize.ShloMosaic.Adequacy
public import Idealize.ShloMosaic.Init

@[expose] public section

noncomputable section

namespace Cert.Proof

open Idealize.ShloMosaic Idealize.SL.Sem Cert.Kernel

/-- `Kernel` runs, keeps its arguments and leaves every semaphore counter at zero. -/
theorem frame_kernel : Cert.quiescent_Kernel := fun m ρ _ => Cert.Kernel.Gen.frame m ρ

/-- `KernelIdeal` runs, keeps its arguments and leaves every semaphore counter at zero. -/
theorem frame_kernelIdeal : Cert.quiescent_KernelIdeal := fun m ρ _ => Cert.KernelIdeal.Gen.frame m ρ

/-- The same under the precondition, which it does not use. -/
theorem frame_kernelIdeal_pre : Cert.quiescent_KernelIdeal_pre_nearest_distinct := fun m ρ _ => Cert.KernelIdeal.Gen.frame m ρ

/-- `ReferenceIdeal` runs and keeps its arguments; it declares no semaphore, so every counter is zero. -/
theorem frame_referenceIdeal : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- The same under the precondition, which it does not use. -/
theorem frame_referenceIdeal_pre : Cert.quiescent_ReferenceIdeal_pre_nearest_distinct := fun m ρ _ =>
  frame_referenceIdeal m ρ trivial

/-- Under the precondition the kernel's value is the reference's. -/
theorem value_eq (m : (ℓ : Loc Cert.KernelIdeal.nD Cert.KernelIdeal.τ Cert.KernelIdeal.sig) → Buf (Elt Ideal) ℓ)
    (h : Cert.Pre_KernelIdeal_nearest_distinct m) (c : Dev Cert.KernelIdeal.nD) (j : Cert.ReferenceIdeal.S_.Idx) :
    Cert.ReferenceIdeal.Terms.out (Cert.KernelIdeal.Blocks.arg0 m c) (Cert.KernelIdeal.Blocks.arg1 m c) j
      = Cert.KernelIdeal.Result.value m c j :=
  (Cert.Equation.out_eq _ _ (h c) j).symm.trans
    (Cert.KernelIdeal.Result.value_apply m c (Cert.Equation.neighbour (Cert.KernelIdeal.Blocks.arg0 m c))
      (Cert.Equation.nearest _ _ (h c)) j).symm

/-- Under the precondition the kernel's result is the reference's, over the extended reals. -/
theorem algebraic : Cert.algebraic_KernelIdeal_ReferenceIdeal_pre_nearest_distinct := by
  intro m g m' g' hpre hargs
  refine ⟨Cert.KernelIdeal.Result.value m, Cert.KernelIdeal.Result.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Terms.res_eq m' c).trans ?_
  rw [(hargs c).1, (hargs c).2]
  exact funext (value_eq m hpre c)

/-- The certificate's claim. -/
theorem claim : Cert.Claim := ⟨Cert.Kernel.Gen.facts, Cert.KernelIdeal.Gen.facts, Cert.ReferenceIdeal.Gen.facts,
  Cert.Pre_nearest_distinct.Gen.facts,
  frame_kernel, frame_kernelIdeal, frame_kernelIdeal_pre, frame_referenceIdeal, frame_referenceIdeal_pre, trivial,
  algebraic⟩

end Cert.Proof

end
